-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_not_below_first_bin [hPre_not_below_first_bin : Cert.Pre_not_below_first_bin.Facts] (m : (ℓ : Loc Cert.KernelIdeal.nD Cert.KernelIdeal.τ Cert.KernelIdeal.sig) → Buf (Elt Ideal) ℓ) : Prop :=
  ∀ c : Dev Cert.KernelIdeal.nD,
    (Cert.Pre_not_below_first_bin.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_not_below_first_bin [hPre_not_below_first_bin : Cert.Pre_not_below_first_bin.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_not_below_first_bin.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_not_below_first_bin [hKernelIdeal : Cert.KernelIdeal.Facts] [hPre_not_below_first_bin : Cert.Pre_not_below_first_bin.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_not_below_first_bin m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_not_below_first_bin [hReferenceIdeal : Cert.ReferenceIdeal.Facts] [hPre_not_below_first_bin : Cert.Pre_not_below_first_bin.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_not_below_first_bin m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_not_below_first_bin [hKernelIdeal : Cert.KernelIdeal.Facts] [hReferenceIdeal : Cert.ReferenceIdeal.Facts] [hPre_not_below_first_bin : Cert.Pre_not_below_first_bin.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_not_below_first_bin m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_not_below_first_bin : Cert.Pre_not_below_first_bin.Facts),
    quiescent_Kernel (hKernel := hKernel)
    ∧ quiescent_KernelIdeal (hKernelIdeal := hKernelIdeal)
    ∧ quiescent_KernelIdeal_pre_not_below_first_bin (hKernelIdeal := hKernelIdeal) (hPre_not_below_first_bin := hPre_not_below_first_bin)
    ∧ quiescent_ReferenceIdeal (hReferenceIdeal := hReferenceIdeal)
    ∧ quiescent_ReferenceIdeal_pre_not_below_first_bin (hReferenceIdeal := hReferenceIdeal) (hPre_not_below_first_bin := hPre_not_below_first_bin)
    ∧ preserves_Kernel_KernelIdeal
    ∧ algebraic_KernelIdeal_ReferenceIdeal_pre_not_below_first_bin (hKernelIdeal := hKernelIdeal) (hReferenceIdeal := hReferenceIdeal) (hPre_not_below_first_bin := hPre_not_below_first_bin)
-- ==== Pre_not_below_first_bin.lean ====
abbrev S4x256x256 : Shape := ⟨3, ![4, 256, 256]⟩
abbrev S_ : Shape := ⟨0, ![]⟩

class Facts : Prop where
  bcast_S_S4x256x256 : S_.BroadcastsInDim S4x256x256 (![] : Fin 0 → Fin S4x256x256.rank)

variable [Facts]

def fn {F : FTy → Type} [FloatOps F] (main_arg0 : FVec F S4x256x256 .f32) : IVec S4x256x256 1 :=
  let main_cst : FVec F S_ .f32 := constant S_ .f32 0xBB03126F#32
  let main_v0 : FVec F S4x256x256 .f32 := broadcastInDim S4x256x256 ![] bcast_S_S4x256x256 main_cst
  let main_v1 : IVec S4x256x256 1 := cmpf .ogt main_arg0 main_v0
  main_v1
-- ==== Kernel.lean ====
abbrev S4x256x256 : Shape := ⟨3, ![4, 256, 256]⟩
abbrev S4x100x256x256 : Shape := ⟨4, ![4, 100, 256, 256]⟩
abbrev S1x32x256 : Shape := ⟨3, ![1, 32, 256]⟩
abbrev S1x100x32x256 : Shape := ⟨4, ![1, 100, 32, 256]⟩
abbrev S1x1x32x256 : Shape := ⟨4, ![1, 1, 32, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x256x256, .f32⟩
  | .hbm, ⟨1, _⟩ => ⟨S4x100x256x256, .f32⟩
  | .local _ .vmem, ⟨0, _⟩ => ⟨S1x32x256, .f32⟩
  | .local _ .vmem, ⟨1, _⟩ => ⟨S1x32x256, .f32⟩
  | .local _ .vmem, ⟨2, _⟩ => ⟨S1x100x32x256, .f32⟩
  | .local _ .vmem, ⟨3, _⟩ => ⟨S1x100x32x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4x256x256 : Shape := ⟨3, ![4, 256, 256]⟩
abbrev S_ : Shape := ⟨0, ![]⟩
abbrev S4 : Shape := ⟨1, ![4]⟩
abbrev S256 : Shape := ⟨1, ![256]⟩
abbrev S4x100x256x256 : Shape := ⟨4, ![4, 100, 256, 256]⟩
abbrev S4x256x256x1 : Shape := ⟨4, ![4, 256, 256, 1]⟩
abbrev S4x256x256x4 : Shape := ⟨4, ![4, 256, 256, 4]⟩

abbrev nBuf : Space → Nat
  | .hbm => 64
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S_, .f32⟩
  | .hbm, ⟨2, _⟩ => ⟨S4x256x256, .f32⟩
  | .hbm, ⟨3, _⟩ => ⟨S4x256x256, .f32⟩
  | .hbm, ⟨4, _⟩ => ⟨S4x256x256, .i32⟩
  | .hbm, ⟨5, _⟩ => ⟨S_, .i32⟩
  | .hbm, ⟨6, _⟩ => ⟨S4x256x256, .i32⟩
  | .hbm, ⟨7, _⟩ => ⟨S4x256x256, .i1⟩
  | .hbm, ⟨8, _⟩ => ⟨S4, .i32⟩
  | .hbm, ⟨9, _⟩ => ⟨S256, .i32⟩
  | .hbm, ⟨10, _⟩ => ⟨S256, .i32⟩
  | .hbm, ⟨11, _⟩ => ⟨S4x256x256, .i32⟩
  | .hbm, ⟨12, _⟩ => ⟨S4x256x256, .i32⟩
  | .hbm, ⟨13, _⟩ => ⟨S4x256x256, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4x256x256, .i32⟩
  | .hbm, ⟨18, _⟩ => ⟨S4x256x256, .i32⟩
  | .hbm, ⟨19, _⟩ => ⟨S_, .i32⟩
  | .hbm, ⟨20, _⟩ => ⟨S4x256x256, .i32⟩
  | .hbm, ⟨21, _⟩ => ⟨S4x256x256, .i32⟩
  | .hbm, ⟨22, _⟩ => ⟨S_, .f32⟩
  | .hbm, ⟨23, _⟩ => ⟨S_, .f32⟩
  | .hbm, ⟨24, _⟩ => ⟨S4x256x256, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S_, .f32⟩
  | .hbm, ⟨29, _⟩ => ⟨S4x100x256x256, .f32⟩
  | .hbm, ⟨30, _⟩ => ⟨S_, .i32⟩
  | .hbm, ⟨31, _⟩ => ⟨S4x256x256, .i32⟩
  | .hbm, ⟨32, _⟩ => ⟨S4x256x256, .i1⟩
  | .hbm, ⟨33, _⟩ => ⟨S_, .i32⟩
  | .hbm, ⟨34, _⟩ => ⟨S4x256x256, .i32⟩
  | .hbm, ⟨35, _⟩ => ⟨S4x256x256, .i32⟩
  | .hbm, ⟨36, _⟩ => ⟨S4x256x256, .i32⟩
  | .hbm, ⟨37, _⟩ => ⟨S_, .i32⟩
  | .hbm, ⟨38, _⟩ => ⟨S4x256x256, .i32⟩
  | .hbm, ⟨39, _⟩ => ⟨S4x256x256, .i1⟩
  | .hbm, ⟨40, _⟩ => ⟨S_, .i32⟩
  | .hbm, ⟨41, _⟩ => ⟨S4x256x256, .i32⟩
  | .hbm, ⟨42, _⟩ => ⟨S4x256x256, .i32⟩
  | .hbm, ⟨43, _⟩ => ⟨S4x256x256, .i32⟩
  | .hbm, ⟨44, _⟩ => ⟨S_, .i32⟩
  | .hbm, ⟨45, _⟩ => ⟨S4x256x256, .i32⟩
  | .hbm, ⟨46, _⟩ => ⟨S4x256x256, .i1⟩
  | .hbm, ⟨47, _⟩ => ⟨S_, .i32⟩
  | .hbm, ⟨48, _⟩ => ⟨S4x256x256, .i32⟩
  | .hbm, ⟨49, _⟩ => ⟨S4x256x256, .i32⟩
  | .hbm, ⟨50, _⟩ => ⟨S4x256x256, .i32⟩
  | .hbm, ⟨51, _⟩ => ⟨S_, .i32⟩
  | .hbm, ⟨52, _⟩ => ⟨S4x256x256, .i32⟩
  | .hbm, ⟨53, _⟩ => ⟨S4x256x256, .i1⟩
  | .hbm, ⟨54, _⟩ => ⟨S_, .i32⟩
  | .hbm, ⟨55, _⟩ => ⟨S4x256x256, .i32⟩
  | .hbm, ⟨56, _⟩ => ⟨S4x256x256, .i32⟩
  | .hbm, ⟨57, _⟩ => ⟨S4x256x256, .i32⟩
  | .hbm, ⟨58, _⟩ => ⟨S4x256x256x1, .i32⟩
  | .hbm, ⟨59, _⟩ => ⟨S4x256x256x1, .i32⟩
  | .hbm, ⟨60, _⟩ => ⟨S4x256x256x1, .i32⟩
  | .hbm, ⟨61, _⟩ => ⟨S4x256x256x1, .i32⟩
  | .hbm, ⟨62, _⟩ => ⟨S4x256x256x4, .i32⟩
  | .hbm, ⟨63, _⟩ => ⟨S4x100x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_cst_2 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_7 : Ref sig .tc := ⟨.hbm, 37, rfl⟩
abbrev main_v20 : Ref sig .tc := ⟨.hbm, 38, rfl⟩
abbrev main_v21 : Ref sig .tc := ⟨.hbm, 39, rfl⟩
abbrev main_c_8 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_9 : Ref sig .tc := ⟨.hbm, 44, rfl⟩
abbrev main_v25 : Ref sig .tc := ⟨.hbm, 45, rfl⟩
abbrev main_v26 : Ref sig .tc := ⟨.hbm, 46, rfl⟩
abbrev main_c_10 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_11 : Ref sig .tc := ⟨.hbm, 51, rfl⟩
abbrev main_v30 : Ref sig .tc := ⟨.hbm, 52, rfl⟩
abbrev main_v31 : Ref sig .tc := ⟨.hbm, 53, rfl⟩
abbrev main_c_12 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Proof.Bins.lean ====
/- The bin of one spike value, as both programs compute it on the extended reals: the value divided by the bin
   width 0.002, cut to a 32-bit integer.  No program is named here; what is proved is the arithmetic that makes the
   reference's clip, its out-of-range test and its write agree with a plain comparison of bins. -/
module

public import Idealize.ShloMosaic.Lib.Pipeline.Value
public import Idealize.ShloMosaic.Lib.WordCmp
public import Idealize.ShloMosaic.PureOps.Ideal

@[expose] public section

noncomputable section

namespace Cert.OneHot

open Idealize.ShloMosaic

/-- The bin width, the 32-bit float nearest 0.002, as an extended real. -/
def step : EReal := Ideal.ofBits .f32 0x3B03126F#32

/-- The bin of a spike: its value divided by the width, cut toward zero. -/
def bin (x : EReal) : BitVec 32 := Ideal.fptosi 32 (Ideal.div x step)

/-- One element of the one-hot array: 1 where the spike's bin is `t`, 0 elsewhere. -/
def hot (x : EReal) (t : Nat) : EReal := if bin x = BitVec.ofNat 32 t then 1 else 0

/-- The width is this rational. -/
theorem step_eq : step = ((8589935 / 4294967296 : ℝ) : EReal) := by
  unfold step
  simp [Ideal.ofBits, Ideal.ieee]
  rw [← EReal.coe_mul]
  norm_num

/-- The word of the width with its sign bit set is minus the width. -/
theorem neg_step_eq : Ideal.ofBits .f32 0xBB03126F#32 = ((-(8589935 / 4294967296) : ℝ) : EReal) := by
  simp [Ideal.ofBits, Ideal.ieee]
  rw [← EReal.coe_mul]
  norm_num

/-- The word of zero is 0, -/
theorem zero_eq : Ideal.ofBits .f32 0x00000000#32 = 0 := by
  simp [Ideal.ofBits, Ideal.ieee]
/-- and the word of one is 1. -/
theorem one_eq : Ideal.ofBits .f32 0x3F800000#32 = 1 := by
  simp [Ideal.ofBits, Ideal.ieee]
  rw [← EReal.coe_mul]
  norm_num

/-- A spike above minus the width has a bin that is at least 0. -/
theorem bin_nonneg (x : EReal) (h : Ideal.ofBits .f32 0xBB03126F#32 < x) : 0 ≤ (bin x).toInt := by
  rw [neg_step_eq] at h
  have hs : (step : EReal) ≠ 0 := by
    rw [step_eq]; exact_mod_cast (by norm_num : (8589935 / 4294967296 : ℝ) ≠ 0)
  have key : ∀ z : Int, 0 ≤ z → z ≤ 2 ^ 31 - 1 → 0 ≤ (BitVec.ofInt 32 z).toInt := by
    intro z h0 h1
    rw [BitVec.toInt_ofInt, Int.bmod_def]
    omega
  unfold bin Ideal.fptosi
  rw [Ideal.div, if_neg hs, step_eq, ← EReal.coe_inv]
  apply key
  · induction x using EReal.rec with
    | bot => simp at h
    | top =>
      rw [EReal.top_mul_coe_of_pos (by norm_num)]
      simp
    | coe r =>
      have hr : -(8589935 / 4294967296 : ℝ) < r := by exact_mod_cast h
      rw [← EReal.coe_mul, Ideal.toIntClamped_coe]
      refine le_max_of_le_right (le_min (by norm_num) ?_)
      split_ifs with hp
      · exact Int.floor_nonneg.mpr hp
      · have : (-1 : ℝ) < r * (8589935 / 4294967296 : ℝ)⁻¹ := by
          rw [← div_eq_mul_inv, lt_div_iff₀ (by norm_num)]; linarith
        have : (-1 : Int) < ⌈r * (8589935 / 4294967296 : ℝ)⁻¹⌉ := Int.lt_ceil.mpr (by exact_mod_cast this)
        omega
  · induction x using EReal.rec with
    | bot => simp at h
    | top =>
      rw [EReal.top_mul_coe_of_pos (by norm_num)]
      simp
    | coe r =>
      rw [← EReal.coe_mul, Ideal.toIntClamped_coe]
      exact max_le (by norm_num) (min_le_left _ _)

/-- The clip of a bin to 0 … 99, as the reference writes it. -/
def clip (b : BitVec 32) : BitVec 32 := IntOp.minsi 99#32 (IntOp.maxsi 0#32 b)

/-- The clip, on signed values. -/
theorem clip_toInt (b : BitVec 32) : (clip b).toInt = min 99 (max 0 b.toInt) := by
  unfold clip IntOp.minsi IntOp.maxsi
  have h0 : (0#32 : BitVec 32).toInt = 0 := by decide
  have h99 : (99#32 : BitVec 32).toInt = 99 := by decide
  simp only [BitVec.slt_eq_decide, BitVec.sle_eq_decide, h0, h99]
  split_ifs <;> simp_all <;> omega

/-- A clipped bin is below the words that read as negative. -/
theorem clip_toNat_lt (b : BitVec 32) : (clip b).toNat < 2 ^ 31 := by
  have h := clip_toInt b
  rw [BitVec.toInt_eq_toNat_cond] at h
  split_ifs at h <;> omega

/-- The reference's value at time `t` from the one spike that can reach it is the one-hot element: where the bin is
    at least 0, the clip moves only bins of 100 and above, and those add 0. -/
theorem added_eq_hot (x : EReal) (t : Nat) (ht : t < 100) (h : 0 ≤ (bin x).toInt) :
    (if (clip (bin x)).toInt = (t : Int) then (if (bin x).toInt < 100 then (1 : EReal) else 0) else 0) = hot x t := by
  have e : bin x = BitVec.ofNat 32 t ↔ (bin x).toInt = (t : Int) := by
    rw [← BitVec.toInt_inj, BitVec.toInt_ofNat', Int.bmod_def]
    constructor <;> intro q <;> omega
  rw [clip_toInt]
  unfold hot
  simp only [e]
  split_ifs <;> first | rfl | omega

end Cert.OneHot

end
-- ==== Proof.KernelValue.lean ====
/- What the kernel leaves in its result array, on the extended reals: element (c, t, h, w) is 1 where the bin of spike
   (c, h, w) is t, and 0 elsewhere. -/
module

public import proofs.«01_k».proof.Proof.Bins
public import proofs.«01_k».proof.Proof.Gen.KernelIdeal.Value
public import Idealize.ShloMosaic.Lib.Pointwise

@[expose] public section

noncomputable section

namespace Cert.KernelIdeal.OneHot

open Cert.KernelIdeal Cert.KernelIdeal.Gen Cert.OneHot
open Idealize.ShloMosaic Idealize.ShloMosaic.TcCoe Idealize.SL.Sem
open Idealize.ShloMosaic.Pipeline (Dat)

/-- The offsets of the whole block are zero on every axis, for the spikes' three axes -/
theorem z3 : (![0, 0, 0] : Fin 3 → Nat) = fun _ => 0 := funext fun a => by fin_cases a <;> rfl
/-- and for the result's four. -/
theorem z4 : (![0, 0, 0, 0] : Fin 4 → Nat) = fun _ => 0 := funext fun a => by fin_cases a <;> rfl

/-- The block that one grid point computes, at an index. -/
theorem pay_apply (v : Vec Ideal S1x32x256 .f32) (j : S1x100x32x256.Idx) :
    k0_pay1 v j = hot (v (ix3 0 (j 2) (j 3))) (j 1).val := by
  unfold k0_pay1
  pointwise
  show FloatOps.sitofp .f32 (BitVec.setWidth 32 (IntOp.cmpi .eq (bin (v (ix3 0 (j 2) (j 3)))) (BitVec.ofNat 32 (j 1).val))) = _
  unfold hot
  by_cases h : bin (v (ix3 0 (j 2) (j 3))) = BitVec.ofNat 32 (j 1).val
  · simp [IntOp.cmpi, h, FloatOps.sitofp]
  · simp [IntOp.cmpi, beq_eq_false_iff_ne.mpr h, h, FloatOps.sitofp]

variable (m : (ℓ : Loc nD τ sig) → Buf (Elt Ideal) ℓ) (ρ : Dev nD → PrngReg)

/-- The one-hot array of device `c`'s spikes. -/
def G (c : Dev nD) : Buf (Elt Ideal) ((c : Thread nD τ).loc main_v0) :=
  fun i : S4x100x256x256.Idx =>
    hot ((m ((c : Thread nD τ).loc main_arg0) : S4x256x256.Idx → EReal) (ix3 (i 0) (i 2) (i 3))) (i 1).val

/-- The blocks that one grid point reads and writes are at the same place of their arrays (decided over the 32
    points): the result's block starts at bin 0. -/
theorem idx_facts : ∀ t : Fin grid0.N, win0_1.index t 0 = win0_0.index t 0 ∧ win0_1.index t 1 = 0
    ∧ win0_1.index t 2 = win0_0.index t 1 ∧ win0_1.index t 3 = win0_0.index t 2 := by decide +kernel

/-- What one grid point writes back is its block of the one-hot array. -/
theorem flushed_eq (c : Dev nD) (t : Fin cfg0.N) :
    (dats m 0 c).flushed 1 t = ((cfg0.win 1).blk t).view.read (Elt Ideal) (G m c) := by
  rw [Value.flushed1]
  unfold out0_1
  rw [View.canon_unit_zero z4, View.ld_unit_zero z3]
  funext j
  refine (pay_apply (iblk m c 0 t) _).trans ?_
  show hot ((m ((c : Thread nD τ).loc main_arg0) : S4x256x256.Idx → EReal) ((win0_0.rect t).emb _)) _ =
    hot ((m ((c : Thread nD τ).loc main_arg0) : S4x256x256.Idx → EReal) (ix3 ((win0_1.rect t).emb j 0)
      ((win0_1.rect t).emb j 2) ((win0_1.rect t).emb j 3))) ((win0_1.rect t).emb j 1).val
  obtain ⟨e0, e1, e2, e3⟩ := idx_facts t
  have hj : ((win0_1.rect t).emb j 1 : Nat) = j 1 := win0_1.rect_emb_val_of_index_zero t 1 e1 j
  rw [hj]
  congr 2
  have v0 := win0_1.rect_emb_val t j 0
  have v2 := win0_1.rect_emb_val t j 2
  have v3 := win0_1.rect_emb_val t j 3
  rw [e0] at v0; rw [e2] at v2; rw [e3] at v3
  have hj0 : (j 0 : Nat) = 0 := Nat.lt_one_iff.mp (j 0).isLt
  funext a
  apply Fin.ext
  match a with
  | ⟨0, _⟩ => exact (win0_0.rect_emb_val t _ 0).trans (by rw [hj0] at v0; exact v0.symm)
  | ⟨1, _⟩ => exact (win0_0.rect_emb_val t _ 1).trans v2.symm
  | ⟨2, _⟩ => exact (win0_0.rect_emb_val t _ 2).trans v3.symm

/-- An index of the result is in a point's block where each coordinate is within the block's range. -/
theorem mem_blk (t : Fin cfg0.N) (i : S4x100x256x256.Idx) :
    i ∈ ((cfg0.win 1).blk t).view.set ↔ ∀ a : Fin 4, win0_1.index t a * win0_1.size a ≤ (i a : Nat)
      ∧ (i a : Nat) < win0_1.index t a * win0_1.size a + win0_1.xsize (grid0.coords t) a := by
  show i ∈ ((View.whole main_v0).slice (win0_1.rect t)).set ↔ _
  rw [View.set_slice_whole, Rect.mem_set_unit]
  rfl

/-- Every channel and every group of 32 rows has its grid point. -/
theorem idx_onto : ∀ (p : Fin 4) (q : Fin 8), ∃ t : Fin grid0.N,
    win0_1.index t 0 * win0_1.size 0 = p.val ∧ win0_1.xsize (grid0.coords t) 0 = 1
    ∧ win0_1.index t 1 * win0_1.size 1 = 0 ∧ win0_1.xsize (grid0.coords t) 1 = 100
    ∧ win0_1.index t 2 * win0_1.size 2 = 32 * q.val ∧ win0_1.xsize (grid0.coords t) 2 = 32
    ∧ win0_1.index t 3 * win0_1.size 3 = 0 ∧ win0_1.xsize (grid0.coords t) 3 = 256 := by decide +kernel

/-- The blocks written cover the whole result. -/
theorem cover (i : S4x100x256x256.Idx) :
    ∃ t : Fin cfg0.N, (cfg0.win 1).flush t = true ∧ i ∈ ((cfg0.win 1).blk t).view.set := by
  have h0 : (i 0 : Nat) < 4 := (i 0).isLt
  have h1 : (i 1 : Nat) < 100 := (i 1).isLt
  have h2 : (i 2 : Nat) < 256 := (i 2).isLt
  have h3 : (i 3 : Nat) < 256 := (i 3).isLt
  obtain ⟨t, e⟩ := idx_onto ⟨i 0, h0⟩ ⟨(i 2 : Nat) / 32, by omega⟩
  refine ⟨t, flush0_1 t, (mem_blk t i).mpr fun a => ?_⟩
  match a with
  | ⟨0, _⟩ =>
    show win0_1.index t 0 * win0_1.size 0 ≤ (i 0 : Nat)
      ∧ (i 0 : Nat) < win0_1.index t 0 * win0_1.size 0 + win0_1.xsize (grid0.coords t) 0
    rw [e.1, e.2.1]; dsimp only; omega
  | ⟨1, _⟩ =>
    show win0_1.index t 1 * win0_1.size 1 ≤ (i 1 : Nat)
      ∧ (i 1 : Nat) < win0_1.index t 1 * win0_1.size 1 + win0_1.xsize (grid0.coords t) 1
    rw [e.2.2.1, e.2.2.2.1]; dsimp only; omega
  | ⟨2, _⟩ =>
    show win0_1.index t 2 * win0_1.size 2 ≤ (i 2 : Nat)
      ∧ (i 2 : Nat) < win0_1.index t 2 * win0_1.size 2 + win0_1.xsize (grid0.coords t) 2
    rw [e.2.2.2.2.1, e.2.2.2.2.2.1]; dsimp only; omega
  | ⟨3, _⟩ =>
    show win0_1.index t 3 * win0_1.size 3 ≤ (i 3 : Nat)
      ∧ (i 3 : Nat) < win0_1.index t 3 * win0_1.size 3 + win0_1.xsize (grid0.coords t) 3
    rw [e.2.2.2.2.2.2.1, e.2.2.2.2.2.2.2]; dsimp only; omega

/-- The result array ends holding the one-hot array. -/
theorem final (c : Dev nD) : (dats m 0 c).arrAt 1 cfg0.N = G m c :=
  (dats m 0 c).arrAt_eq_of_cover 1 (G m c) (fun t _ => flushed_eq m c t) cover

/-- The kernel's run: the result is the one-hot array, the argument is unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.OneHot

end
-- ==== Proof.RefLands.lean ====
/- Where the reference's scatter writes: the four words of an update's index vector name the element it lands at. -/
module

public import proofs.«01_k».proof.Proof.Gen.ReferenceIdeal
public import Idealize.ShloMosaic.Lib.Routing.OpsPair
public import Idealize.ShloMosaic.Lib.Pointwise

@[expose] public section

noncomputable section

namespace Cert.ReferenceIdeal.OneHot

open Cert.ReferenceIdeal Cert.ReferenceIdeal.Gen
open Idealize.ShloMosaic

/-- The reference's scatter: one value per spike, one index vector of four words per value. -/
abbrev sc : ScatterDims S4x100x256x256 S4x256x256x4 S4x256x256 := scatter_S4x100x256x256_S4x256x256x4_S4x256x256_n_0123_0123_3

/-- Word `q` of the index vector of update `j` is read at `j` and `q`. -/
theorem siIdx_eq (j : S4x256x256.Idx) (q : Fin 4) : sc.siIdx j q = ix4 (j 0) (j 1) (j 2) q := by
  funext b
  apply Fin.ext
  match b with
  | ⟨0, _⟩ => rfl
  | ⟨1, _⟩ => rfl
  | ⟨2, _⟩ => rfl
  | ⟨3, _⟩ => rfl

/-- On each axis an update starts at that axis's word. -/
theorem start_eq (j : S4x256x256.Idx) (idx : IVec S4x256x256x4 32) (q : Fin 4) :
    sc.start j idx q = (idx (ix4 (j 0) (j 1) (j 2) q)).toInt := by
  unfold ScatterDims.start
  rw [dif_pos (by fin_cases q <;> decide)]
  refine congrArg (fun z => (idx z).toInt) (Eq.trans ?_ (siIdx_eq j q))
  fin_cases q <;> rfl

/-- An update is one element: it has no extent from its start. -/
theorem window_eq (j : S4x256x256.Idx) (q : Fin 4) : sc.window j q = 0 := by
  unfold ScatterDims.window
  rw [dif_neg (by fin_cases q <;> decide)]

/-- Update `j` lands at element `i` exactly when its four words are `i`'s coordinates. -/
theorem lands (j : S4x256x256.Idx) (idx : IVec S4x256x256x4 32) (i : S4x100x256x256.Idx) :
    sc.resultIdx? j idx = some i ↔ ∀ q : Fin 4, (idx (ix4 (j 0) (j 1) (j 2) q)).toInt = ((i q).val : Int) := by
  rw [Routing.resultIdx?_eq_some]
  refine forall_congr' fun q => ?_
  rw [start_eq, window_eq]
  simp

end Cert.ReferenceIdeal.OneHot

end
-- ==== Proof.RefValue.lean ====
/- What the reference computes, on the extended reals: where every spike's bin is at least 0, element (c, t, h, w) of
   its result is 1 where the bin of spike (c, h, w) is t, and 0 elsewhere. -/
module

public import proofs.«01_k».proof.Proof.Bins
public import proofs.«01_k».proof.Proof.RefLands
public import proofs.«01_k».proof.Proof.Gen.ReferenceIdeal.Read
public import Idealize.ShloMosaic.Lib.Quiescent

@[expose] public section

noncomputable section

namespace Cert.ReferenceIdeal.OneHot

open Cert.ReferenceIdeal Cert.ReferenceIdeal.Gen Cert.ReferenceIdeal.Read Cert.OneHot
open Idealize.ShloMosaic Idealize.ShloMosaic.TcCoe Idealize.SL.Sem

/-- An array of spikes. -/
abbrev Spikes := (⟨S4x256x256, .f32⟩ : BufTy).Contents (Elt Ideal)

/-- Four columns of words joined along the last axis, read at column 0, 1, 2 or 3. -/
theorem joined (y : Fin 4 → S4x256x256x1.Idx → BitVec 32)
    (h : Shape.Concatenates [S4x256x256x1, S4x256x256x1, S4x256x256x1, S4x256x256x1] S4x256x256x4 3)
    (a : Fin 4) (b c : Fin 256) (q : Fin 4) :
    concatenate (α := BitVec 32) S4x256x256x4 3
      [⟨S4x256x256x1, y 0⟩, ⟨S4x256x256x1, y 1⟩, ⟨S4x256x256x1, y 2⟩, ⟨S4x256x256x1, y 3⟩] h (ix4 a b c q)
      = y q (ix4 a b c 0) := by
  have off : ∀ p : Fin 4, p ≠ 3 → (ix4 (n3 := 1) a b c 0 p).val = (ix4 (n3 := 4) a b c q p).val := by
    intro p hp; fin_cases p <;> first | rfl | exact absurd rfl hp
  have piece : ∀ (k : Nat) (hk : k < 4) (e : q = ⟨k, hk⟩), _ := fun k hk e =>
    concatenate_apply_piece (α := BitVec 32) (t := S4x256x256x4) 3
      [⟨S4x256x256x1, y 0⟩, ⟨S4x256x256x1, y 1⟩, ⟨S4x256x256x1, y 2⟩, ⟨S4x256x256x1, y 3⟩] h (ix4 a b c q) k hk
      S4x256x256x1 (y q) (by subst e; match k, hk with | 0, _ => rfl | 1, _ => rfl | 2, _ => rfl | 3, _ => rfl) rfl k
      (by match k, hk with | 0, _ => rfl | 1, _ => rfl | 2, _ => rfl | 3, _ => rfl) (ix4 a b c 0) off (by subst e; rfl)
  exact piece q.val q.isLt rfl

/-- The same for four columns with names of their own. -/
theorem joined' (y0 y1 y2 y3 : S4x256x256x1.Idx → BitVec 32)
    (h : Shape.Concatenates [S4x256x256x1, S4x256x256x1, S4x256x256x1, S4x256x256x1] S4x256x256x4 3)
    (a : Fin 4) (b c : Fin 256) (q : Fin 4) :
    concatenate (α := BitVec 32) S4x256x256x4 3
      [⟨S4x256x256x1, y0⟩, ⟨S4x256x256x1, y1⟩, ⟨S4x256x256x1, y2⟩, ⟨S4x256x256x1, y3⟩] h (ix4 a b c q)
      = (![y0, y1, y2, y3] : Fin 4 → S4x256x256x1.Idx → BitVec 32) q (ix4 a b c 0) :=
  joined ![y0, y1, y2, y3] h a b c q

/-- Word 0 of an index vector is the channel's, -/
theorem word0 (x : Spikes) (j : S4x256x256.Idx) :
    val_main_v39 (F := Ideal) x (ix4 (j 0) (j 1) (j 2) 0) = val_main_v19 (F := Ideal) j := by
  unfold val_main_v39
  refine (joined' _ _ _ _ _ (j 0) (j 1) (j 2) 0).trans ?_
  show val_main_v35 (F := Ideal) (ix4 (j 0) (j 1) (j 2) 0) = _
  rw [val_main_v35_apply]
  refine congrArg (val_main_v19 (F := Ideal)) ?_
  funext a
  match a with
  | ⟨0, _⟩ => rfl
  | ⟨1, _⟩ => rfl
  | ⟨2, _⟩ => rfl

/-- word 1 the clipped bin's, -/
theorem word1 (x : Spikes) (j : S4x256x256.Idx) :
    val_main_v39 (F := Ideal) x (ix4 (j 0) (j 1) (j 2) 1) = val_main_v24 (F := Ideal) x j := by
  unfold val_main_v39
  refine (joined' _ _ _ _ _ (j 0) (j 1) (j 2) 1).trans ?_
  show val_main_v36 (F := Ideal) x (ix4 (j 0) (j 1) (j 2) 0) = _
  rw [val_main_v36_apply]
  refine congrArg (val_main_v24 (F := Ideal) x) ?_
  funext a
  match a with
  | ⟨0, _⟩ => rfl
  | ⟨1, _⟩ => rfl
  | ⟨2, _⟩ => rfl

/-- word 2 the row's, -/
theorem word2 (x : Spikes) (j : S4x256x256.Idx) :
    val_main_v39 (F := Ideal) x (ix4 (j 0) (j 1) (j 2) 2) = val_main_v29 (F := Ideal) j := by
  unfold val_main_v39
  refine (joined' _ _ _ _ _ (j 0) (j 1) (j 2) 2).trans ?_
  show val_main_v37 (F := Ideal) (ix4 (j 0) (j 1) (j 2) 0) = _
  rw [val_main_v37_apply]
  refine congrArg (val_main_v29 (F := Ideal)) ?_
  funext a
  match a with
  | ⟨0, _⟩ => rfl
  | ⟨1, _⟩ => rfl
  | ⟨2, _⟩ => rfl

/-- and word 3 the column's. -/
theorem word3 (x : Spikes) (j : S4x256x256.Idx) :
    val_main_v39 (F := Ideal) x (ix4 (j 0) (j 1) (j 2) 3) = val_main_v34 (F := Ideal) j := by
  unfold val_main_v39
  refine (joined' _ _ _ _ _ (j 0) (j 1) (j 2) 3).trans ?_
  show val_main_v38 (F := Ideal) (ix4 (j 0) (j 1) (j 2) 0) = _
  rw [val_main_v38_apply]
  refine congrArg (val_main_v34 (F := Ideal)) ?_
  funext a
  match a with
  | ⟨0, _⟩ => rfl
  | ⟨1, _⟩ => rfl
  | ⟨2, _⟩ => rfl

/-- A coordinate below 2³¹ reads back from its word, and so does its word after the wrap of negative indices. -/
theorem wrapped_coord (n : Nat) (a : BitVec 32) (h : n < 2 ^ 31) :
    (Scalar.select (IntOp.cmpi .slt (BitVec.ofNat 32 n) 0#32) a (BitVec.ofNat 32 n)).toInt = (n : Int) := by
  rw [Routing.wrap_of_lt _ _ (by rw [BitVec.toNat_ofNat]; omega), BitVec.toInt_ofNat', Int.bmod_def]
  omega

/-- The channel's word. -/
theorem chan_eq (j : S4x256x256.Idx) : (val_main_v19 (F := Ideal) j).toInt = ((j 0).val : Int) := by
  rw [val_main_v19_apply, val_main_v16_apply, val_main_v15_apply, val_main_c_5_apply, val_main_v8_apply, val_main_v5_apply]
  have : (j 0).val < 4 := (j 0).isLt
  exact wrapped_coord _ _ (by show (j 0).val < _; omega)

/-- The row's word. -/
theorem row_eq (j : S4x256x256.Idx) : (val_main_v29 (F := Ideal) j).toInt = ((j 1).val : Int) := by
  rw [val_main_v29_apply, val_main_v26_apply, val_main_v25_apply, val_main_c_9_apply, val_main_v9_apply, val_main_v6_apply]
  have : (j 1).val < 256 := (j 1).isLt
  exact wrapped_coord _ _ (by show (j 1).val < _; omega)

/-- The column's word. -/
theorem col_eq (j : S4x256x256.Idx) : (val_main_v34 (F := Ideal) j).toInt = ((j 2).val : Int) := by
  rw [val_main_v34_apply, val_main_v31_apply, val_main_v30_apply, val_main_c_11_apply, val_main_v10_apply, val_main_v7_apply]
  have : (j 2).val < 256 := (j 2).isLt
  exact wrapped_coord _ _ (by show (j 2).val < _; omega)

/-- The reference's bin is the spike's bin. -/
theorem bin_eq (x : Spikes) (j : S4x256x256.Idx) : val_main_v2 (F := Ideal) x j = bin (x j) := by
  rw [val_main_v2_apply, val_main_v1_apply, val_main_v0_apply, val_main_cst_apply]
  rfl

/-- The clipped bin's word. -/
theorem clip_eq (x : Spikes) (j : S4x256x256.Idx) : val_main_v24 (F := Ideal) x j = clip (bin (x j)) := by
  have e : val_main_v11 (F := Ideal) x j = clip (bin (x j)) := by
    rw [val_main_v11_apply, val_main_call0_v4_apply, val_main_call0_v3_apply, val_main_c_1_apply, val_main_call0_v2_apply,
      val_main_call0_v1_apply, val_main_call0_v0_apply, val_main_c_0_apply, bin_eq]
    rfl
  rw [val_main_v24_apply, val_main_v21_apply, val_main_v20_apply, val_main_c_7_apply, e]
  exact Routing.wrap_of_lt _ _ (clip_toNat_lt _)

/-- The value that spike `j` adds: 1 where its bin is below 100. -/
theorem added_eq (x : Spikes) (j : S4x256x256.Idx) :
    val_main_v13 (F := Ideal) x j = if (bin (x j)).toInt < 100 then (1 : EReal) else 0 := by
  rw [val_main_v13_apply, val_main_v12_apply, val_main_v4_apply, val_main_v3_apply, val_main_c_apply, bin_eq,
    val_main_call1_v0_apply, val_main_cst_2_apply, val_main_call1_v1_apply, val_main_cst_3_apply]
  show Scalar.select (BitVec.ofBool ((bin (x j)).slt 100#32)) (Ideal.ofBits .f32 0x3F800000#32) (Ideal.ofBits .f32 0x00000000#32) = _
  rw [BitVec.slt_eq_decide, WordCmp.select_decide, one_eq, zero_eq]
  rfl

/-- Spike `j` reaches element `i` exactly when `j` is `i` without its time and `i`'s time is `j`'s clipped bin. -/
theorem lands_iff (x : Spikes) (j : S4x256x256.Idx) (i : S4x100x256x256.Idx) :
    sc.resultIdx? j (val_main_v39 (F := Ideal) x) = some i ↔
      j = ix3 (i 0) (i 2) (i 3) ∧ (clip (bin (x j))).toInt = ((i 1).val : Int) := by
  rw [lands]
  constructor
  · intro h
    have h0 := h 0
    have h1 := h 1
    have h2 := h 2
    have h3 := h 3
    rw [word0, chan_eq] at h0
    rw [word1, clip_eq] at h1
    rw [word2, row_eq] at h2
    rw [word3, col_eq] at h3
    refine ⟨funext fun a => Fin.ext ?_, h1⟩
    match a with
    | ⟨0, _⟩ => exact_mod_cast h0
    | ⟨1, _⟩ => exact_mod_cast h2
    | ⟨2, _⟩ => exact_mod_cast h3
  · rintro ⟨rfl, h1⟩ q
    match q with
    | ⟨0, _⟩ => exact (congrArg BitVec.toInt (word0 x _)).trans (chan_eq _)
    | ⟨1, _⟩ => exact (congrArg BitVec.toInt ((word1 x _).trans (clip_eq x _))).trans h1
    | ⟨2, _⟩ => exact (congrArg BitVec.toInt (word2 x _)).trans (row_eq _)
    | ⟨3, _⟩ => exact (congrArg BitVec.toInt (word3 x _)).trans (col_eq _)

/-- The reference's result, element by element. -/
theorem val_apply (x : Spikes) (hx : ∀ j, 0 ≤ (bin (x j)).toInt) (i : S4x100x256x256.Idx) :
    val_main_v40 (F := Ideal) x i = hot (x (ix3 (i 0) (i 2) (i 3))) (i 1).val := by
  have e : val_main_v40 (F := Ideal) x i = val_main_v14 (F := Ideal) i
      + ∑ j ∈ Finset.univ.filter (fun j => sc.resultIdx? j (val_main_v39 (F := Ideal) x) = some i), val_main_v13 (F := Ideal) x j := rfl
  have z : val_main_v14 (F := Ideal) i = (0 : EReal) := by
    rw [val_main_v14_apply, val_main_cst_4_apply]; exact zero_eq
  rw [e, z, zero_add, Finset.sum_filter]
  refine (Finset.sum_eq_single (ix3 (i 0) (i 2) (i 3) : S4x256x256.Idx) (fun j _ hj => if_neg fun h => hj ((lands_iff x j i).mp h).1)
    fun h => absurd (Finset.mem_univ _) h).trans ?_
  refine Eq.trans ?_ (added_eq_hot _ _ (i 1).isLt (hx _))
  rw [← added_eq]
  exact if_congr ((lands_iff x _ i).trans ⟨fun h => h.2, fun h => ⟨rfl, h⟩⟩) rfl rfl

variable (m : (ℓ : Loc nD τ sig) → Buf (Elt Ideal) ℓ) (ρ : Dev nD → PrngReg)

/-- The reference's run: the result as computed above, the argument unchanged. -/
theorem run : θ_run defs (onTc (τ := τ) (main (F := Ideal))) ⟨m, fun _ => 0, ρ⟩ fun r => ∀ c : Dev nD,
      r.2.mem ((c.tc : Thread nD τ).loc main_v40) = val_main_v40 (F := Ideal) (m ((c.tc : Thread nD τ).loc main_arg0))
      ∧ r.2.mem ((c.tc : Thread nD τ).loc main_arg0) = m ((c.tc : Thread nD τ).loc main_arg0) :=
  (θ_run defs _ _).mono (fun _ h c => ⟨(h c).1.trans (val_main_v40_eq _), (h c).2⟩) (Value.run m ρ)

/-- The reference runs, leaves its argument as it was and every counter at zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (run m ρ)

end Cert.ReferenceIdeal.OneHot

end
-- ==== Proof.lean ====
module

public import proofs.«01_k».proof.Defs
public import proofs.«01_k».proof.Proof.Gen.Kernel.Frame
public import proofs.«01_k».proof.Proof.Gen.Pre_not_below_first_bin
public import proofs.«01_k».proof.Proof.KernelValue
public import proofs.«01_k».proof.Proof.RefValue

@[expose] public section

noncomputable section

namespace Cert.Proof

open Idealize.ShloMosaic Idealize.ShloMosaic.TcCoe Idealize.SL.Sem Cert.OneHot

/-- The precondition read at one spike: its bin is at least 0. -/
theorem pre_apply (x : FVec Ideal Cert.Pre_not_below_first_bin.S4x256x256 .f32)
    (h : Cert.Pre_not_below_first_bin.fn x = fun _ => 1#1) (j : Cert.Pre_not_below_first_bin.S4x256x256.Idx) :
    0 ≤ (bin (x j)).toInt := by
  apply bin_nonneg
  have e : BitVec.ofBool (decide (Ideal.ofBits .f32 0xBB03126F#32 < x j)) = 1#1 := congrFun h j
  by_contra hn
  rw [decide_eq_false hn] at e
  exact absurd e (by decide)

/-- On the extended reals the kernel's result is the reference's, element by element: both are the one-hot array. -/
theorem algebraic : Cert.algebraic_KernelIdeal_ReferenceIdeal_pre_not_below_first_bin := by
  intro m g m' g' hpre hagree
  refine ⟨fun c => Cert.KernelIdeal.OneHot.G m c, Cert.KernelIdeal.OneHot.run m g, ?_⟩
  refine (θ_run Cert.ReferenceIdeal.defs _ _).mono (fun _ h c => ⟨(h c).1.trans ?_, (h c).2⟩)
    (Cert.ReferenceIdeal.OneHot.run m' g')
  rw [hagree c]
  funext i
  exact Cert.ReferenceIdeal.OneHot.val_apply _ (pre_apply _ (hpre c)) i

/-- Every claim. -/
theorem claim : Cert.Claim :=
  ⟨Cert.Kernel.Gen.facts, Cert.KernelIdeal.Gen.facts, Cert.ReferenceIdeal.Gen.facts, Cert.Pre_not_below_first_bin.Gen.facts,
    fun m g _ => Cert.Kernel.Gen.frame m g,
    fun m g _ => Cert.KernelIdeal.Gen.frame m g,
    fun m g _ => Cert.KernelIdeal.Gen.frame m g,
    fun m g _ => Cert.ReferenceIdeal.OneHot.frame m g,
    fun m g _ => Cert.ReferenceIdeal.OneHot.frame m g,
    trivial, algebraic⟩

end Cert.Proof

end
